-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x2048 : Shape := ⟨3, ![4, 8192, 2048]⟩
abbrev S32768x2048 : Shape := ⟨2, ![32768, 2048]⟩
abbrev S1x1 : Shape := ⟨2, ![1, 1]⟩
abbrev S1024x2048 : Shape := ⟨2, ![1024, 2048]⟩
abbrev S1x1024x2048 : Shape := ⟨3, ![1, 1024, 2048]⟩
abbrev S1 : Shape := ⟨1, ![1]⟩
abbrev S1x1x1 : Shape := ⟨3, ![1, 1, 1]⟩

abbrev nBuf : Space → Nat
  | .hbm => 5
  | .vmem => 6
  | .smem => 2
  | _ => 0

abbrev bufTy : (tb : Table) → Fin (tcTables nBuf tb) → BufTy
  | .hbm, ⟨0, _⟩ => ⟨S4x8192x2048, .f32⟩
  | .hbm, ⟨1, _⟩ => ⟨S32768x2048, .f32⟩
  | .hbm, ⟨2, _⟩ => ⟨S1x1, .f32⟩
  | .hbm, ⟨3, _⟩ => ⟨S32768x2048, .f32⟩
  | .hbm, ⟨4, _⟩ => ⟨S4x8192x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S1024x2048, .f32⟩
  | .local _ .vmem, ⟨5, _⟩ => ⟨S1024x2048, .f32⟩
  | .local _ .smem, ⟨0, _⟩ => ⟨S1x1, .f32⟩
  | .local _ .smem, ⟨1, _⟩ => ⟨S1x1, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc0_stg1_0 : Ref sig .tc := ⟨.smem, 0, rfl⟩
abbrev cc1_stg0_0 : Ref sig .tc := ⟨.smem, 1, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v7 : BitVec 1 := Scalar.cmpi .eq arg0 c0_i32
  let v8 : BitVec 32 := Scalar.extui v7
  let c0_i32_1 : BitVec 32 := 0#32
  let v9 : BitVec 1 := Scalar.cmpi .ne v8 c0_i32_1
  v9

def k0_cond2 (i : grid0.Coords) : BitVec 1 :=
  let arg0 : BitVec 32 := BitVec.ofNat 32 (i 0).val
  let c0_i32_2 : BitVec 32 := 0#32
  let v10 : BitVec 1 := Scalar.cmpi .sgt arg0 c0_i32_2
  let v11 : BitVec 32 := Scalar.extui v10
  let c0_i32_3 : BitVec 32 := 0#32
  let v12 : BitVec 1 := Scalar.cmpi .ne v11 c0_i32_3
  v12

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S4x8192x2048 : Shape := ⟨3, ![4, 8192, 2048]⟩
abbrev S67108864 : Shape := ⟨1, ![67108864]⟩
abbrev S_ : Shape := ⟨0, ![]⟩
abbrev S64 : Shape := ⟨1, ![64]⟩
abbrev S67108864x1 : Shape := ⟨2, ![67108864, 1]⟩

abbrev nBuf : Space → Nat
  | .hbm => 108
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S67108864, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S67108864, .f32⟩
  | .hbm, ⟨8, _⟩ => ⟨S67108864, .f32⟩
  | .hbm, ⟨9, _⟩ => ⟨S67108864, .f32⟩
  | .hbm, ⟨10, _⟩ => ⟨S67108864, .f32⟩
  | .hbm, ⟨11, _⟩ => ⟨S_, .f32⟩
  | .hbm, ⟨12, _⟩ => ⟨S67108864, .f32⟩
  | .hbm, ⟨13, _⟩ => ⟨S67108864, .f32⟩
  | .hbm, ⟨14, _⟩ => ⟨S67108864, .f32⟩
  | .hbm, ⟨15, _⟩ => ⟨S67108864, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S67108864, .i32⟩
  | .hbm, ⟨20, _⟩ => ⟨S67108864, .i32⟩
  | .hbm, ⟨21, _⟩ => ⟨S_, .i32⟩
  | .hbm, ⟨22, _⟩ => ⟨S67108864, .i32⟩
  | .hbm, ⟨23, _⟩ => ⟨S67108864, .i32⟩
  | .hbm, ⟨24, _⟩ => ⟨S_, .i32⟩
  | .hbm, ⟨25, _⟩ => ⟨S64, .i32⟩
  | .hbm, ⟨26, _⟩ => ⟨S_, .i32⟩
  | .hbm, ⟨27, _⟩ => ⟨S_, .i32⟩
  | .hbm, ⟨28, _⟩ => ⟨S67108864, .i32⟩
  | .hbm, ⟨29, _⟩ => ⟨S67108864, .i32⟩
  | .hbm, ⟨30, _⟩ => ⟨S_, .i32⟩
  | .hbm, ⟨31, _⟩ => ⟨S67108864, .i32⟩
  | .hbm, ⟨32, _⟩ => ⟨S67108864, .i1⟩
  | .hbm, ⟨33, _⟩ => ⟨S_, .i32⟩
  | .hbm, ⟨34, _⟩ => ⟨S67108864, .i32⟩
  | .hbm, ⟨35, _⟩ => ⟨S67108864, .i32⟩
  | .hbm, ⟨36, _⟩ => ⟨S67108864, .i32⟩
  | .hbm, ⟨37, _⟩ => ⟨S67108864x1, .i32⟩
  | .hbm, ⟨38, _⟩ => ⟨S_, .i32⟩
  | .hbm, ⟨39, _⟩ => ⟨S67108864, .i32⟩
  | .hbm, ⟨40, _⟩ => ⟨S64, .i32⟩
  | .hbm, ⟨41, _⟩ => ⟨S64, .f32⟩
  | .hbm, ⟨42, _⟩ => ⟨S_, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S_, .f32⟩
  | .hbm, ⟨47, _⟩ => ⟨S_, .f32⟩
  | .hbm, ⟨48, _⟩ => ⟨S64, .f32⟩
  | .hbm, ⟨49, _⟩ => ⟨S64, .f32⟩
  | .hbm, ⟨50, _⟩ => ⟨S64, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S64, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S4x8192x2048, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S4x8192x2048, .f32⟩
  | .hbm, ⟨88, _⟩ => ⟨S4x8192x2048, .f32⟩
  | .hbm, ⟨89, _⟩ => ⟨S4x8192x2048, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S4x8192x2048, .f32⟩
  | .hbm, ⟨98, _⟩ => ⟨S4x8192x2048, .f32⟩
  | .hbm, ⟨99, _⟩ => ⟨S4x8192x2048, .f32⟩
  | .hbm, ⟨100, _⟩ => ⟨S4x8192x2048, .f32⟩
  | .hbm, ⟨101, _⟩ => ⟨S4x8192x2048, .f32⟩
  | .hbm, ⟨102, _⟩ => ⟨S4x8192x2048, .f32⟩
  | .hbm, ⟨103, _⟩ => ⟨S_, .f32⟩
  | .hbm, ⟨104, _⟩ => ⟨S_, .i1⟩
  | .hbm, ⟨105, _⟩ => ⟨S4x8192x2048, .f32⟩
  | .hbm, ⟨106, _⟩ => ⟨S4x8192x2048, .f32⟩
  | .hbm, ⟨107, _⟩ => ⟨S4x8192x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_c_2 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_c_4 : Ref sig .tc := ⟨.hbm, 26, rfl⟩
abbrev main_call1_v0 : Ref sig .tc := ⟨.hbm, 27, rfl⟩
abbrev main_call1_v1 : Ref sig .tc := ⟨.hbm, 28, rfl⟩
abbrev main_v14 : Ref sig .tc := ⟨.hbm, 29, rfl⟩
abbrev main_c_5 : Ref sig .tc := ⟨.hbm, 30, rfl⟩
abbrev main_v15 : Ref sig .tc := ⟨.hbm, 31, rfl⟩
abbrev main_v16 : Ref sig .tc := ⟨.hbm, 32, rfl⟩
abbrev main_c_6 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_7 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_9 : Ref sig .tc := ⟨.hbm, 46, rfl⟩
abbrev main_call2_v0 : Ref sig .tc := ⟨.hbm, 47, rfl⟩
abbrev main_call2_v1 : Ref sig .tc := ⟨.hbm, 48, rfl⟩
abbrev main_v27 : Ref sig .tc := ⟨.hbm, 49, rfl⟩
abbrev main_v28 : Ref sig .tc := ⟨.hbm, 50, rfl⟩
abbrev main_cst_10 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_11 : Ref sig .tc := ⟨.hbm, 55, rfl⟩
abbrev main_v32 : Ref sig .tc := ⟨.hbm, 56, rfl⟩
abbrev main_v33 : Ref sig .tc := ⟨.hbm, 57, rfl⟩
abbrev main_cst_12 : Ref sig .tc := ⟨.hbm, 58, rfl⟩
abbrev main_v34 : Ref sig .tc := ⟨.hbm, 59, rfl⟩
abbrev main_cst_13 : Ref sig .tc := ⟨.hbm, 60, rfl⟩
abbrev main_v35 : Ref sig .tc := ⟨.hbm, 61, rfl⟩
abbrev main_cst_14 : Ref sig .tc := ⟨.hbm, 62, rfl⟩
abbrev main_cst_15 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_v36 : Ref sig .tc := ⟨.hbm, 67, rfl⟩
abbrev main_cst_16 : Ref sig .tc := ⟨.hbm, 68, rfl⟩
abbrev main_v37 : Ref sig .tc := ⟨.hbm, 69, rfl⟩
abbrev main_cst_17 : Ref sig .tc := ⟨.hbm, 70, rfl⟩
abbrev main_v38 : Ref sig .tc := ⟨.hbm, 71, rfl⟩
abbrev main_cst_18 : Ref sig .tc := ⟨.hbm, 72, rfl⟩
abbrev main_v39 : Ref sig .tc := ⟨.hbm, 73, rfl⟩
abbrev main_cst_19 : Ref sig .tc := ⟨.hbm, 74, rfl⟩
abbrev main_v40 : Ref sig .tc := ⟨.hbm, 75, rfl⟩
abbrev main_v41 : Ref sig .tc := ⟨.hbm, 76, rfl⟩
abbrev main_cst_20 : Ref sig .tc := ⟨.hbm, 77, rfl⟩
abbrev main_v42 : Ref sig .tc := ⟨.hbm, 78, rfl⟩
abbrev main_v43 : Ref sig .tc := ⟨.hbm, 79, rfl⟩
abbrev main_cst_21 : Ref sig .tc := ⟨.hbm, 80, rfl⟩
abbrev main_v44 : Ref sig .tc := ⟨.hbm, 81, rfl⟩
abbrev main_cst_22 : Ref sig .tc := ⟨.hbm, 82, rfl⟩
abbrev main_v45 : Ref sig .tc := ⟨.hbm, 83, rfl⟩
abbrev main_cst_23 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_cst_24 : Ref sig .tc := ⟨.hbm, 90, rfl⟩
abbrev main_v51 : Ref sig .tc := ⟨.hbm, 91, rfl⟩
abbrev main_v52 : Ref sig .tc := ⟨.hbm, 92, rfl⟩
abbrev main_cst_25 : Ref sig .tc := ⟨.hbm, 93, rfl⟩
abbrev main_v53 : Ref sig .tc := ⟨.hbm, 94, rfl⟩
abbrev main_cst_26 : Ref sig .tc := ⟨.hbm, 95, rfl⟩
abbrev main_v54 : Ref sig .tc := ⟨.hbm, 96, rfl⟩
abbrev main_call5_v0 : Ref sig .tc := ⟨.hbm, 97, rfl⟩
abbrev main_call5_v1 : Ref sig .tc := ⟨.hbm, 98, rfl⟩
abbrev main_call5_v2 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_cst_27 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩

abbrev nD : Nat := 1
abbrev τ : Topo := Topo.v7x

variable {F : FTy → Type} [FloatOps F]
-- ==== Proof.Bodies.lean ====
/-
  What one call of each kernel body does to its staging memrefs, at any float instance.

  `absmax_first`, `absmax_next`: the absolute-maximum kernel at the first grid point, and at a later one.
  `quant_run`: the quantizing kernel at any grid point.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Tactic

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 1000000 in
/-- At the first grid point the absolute-maximum kernel leaves its block's largest absolute value in the
    one-word output, whatever that word held before. -/
theorem absmax_first (c : Dev nD) (i : grid0.Coords) (A : Memref sig .tc .vmem S1024x2048 .f32) (hA : A.IsWhole)
    (B : Memref sig .tc .smem S1x1 .f32) (hB : B.IsWhole) (h1 : k0_cond1 i = 1#1) (h2 : ¬k0_cond2 i = 1#1)
    (x : Vec F S1024x2048 .f32) (E : Set ℕ) (K : PUnit → sProp 𝕄) :
    iprop(owns (c : Thread nD τ) A fullShare x ∗ (∃ d, owns (c : Thread nD τ) B fullShare d)
        ∗ (iprop(owns (c : Thread nD τ) A fullShare x ∗ owns (c : Thread nD τ) B fullShare (fun _ => k0_pay1 x)) -∗ K ⟨⟩))
      ⊢ wp frame (wpE (defs₀ (F := F)) Variants.none c none) E (cc0__absmax_kernel i A hA B hB) K := by
  simp only [cc0__absmax_kernel_eq_skeleton]
  unfold cc0__absmax_kernel_skel owns
  iintro ⟨⟨%f, %hf, H0⟩, ⟨%d, %g, -, H1⟩, Hk⟩
  sl_exec (disch := first | sl_exact h1 | sl_exact h2)
  sl_step
  iapply Hk
  isplitl [H0]
  · iexists f; isplitr; · ipureintro; exact hf
    iexact H0
  iexists _; isplitr; swap; · iexact H1
  ipureintro
  exact (View.read_writes_full B.view g inb_S1x1_S1x1_0_0 _ []).trans
    (funext fun _ => congrArg k0_pay1 ((View.readAt_full A.view f inb_S1024x2048_S1024x2048_0_0).trans hf))

/-- At a later grid point the absolute-maximum kernel leaves the larger of the word it finds in the one-word
    output and its block's largest absolute value. -/
theorem absmax_next (c : Dev nD) (i : grid0.Coords) (A : Memref sig .tc .vmem S1024x2048 .f32) (hA : A.IsWhole)
    (B : Memref sig .tc .smem S1x1 .f32) (hB : B.IsWhole) (h1 : ¬k0_cond1 i = 1#1) (h2 : k0_cond2 i = 1#1)
    (x : Vec F S1024x2048 .f32) (y : F .f32) (E : Set ℕ) (K : PUnit → sProp 𝕄) :
    iprop(owns (c : Thread nD τ) A fullShare x ∗ owns (c : Thread nD τ) B fullShare (fun _ => y)
        ∗ (iprop(owns (c : Thread nD τ) A fullShare x ∗ owns (c : Thread nD τ) B fullShare (fun _ => k0_pay2 x y)) -∗ K ⟨⟩))
      ⊢ wp frame (wpE (defs₀ (F := F)) Variants.none c none) E (cc0__absmax_kernel i A hA B hB) K := by
  simp only [cc0__absmax_kernel_eq_skeleton]
  unfold cc0__absmax_kernel_skel owns
  iintro ⟨⟨%f, %hf, H0⟩, ⟨%g, %hg, H1⟩, Hk⟩
  sl_exec (disch := first | sl_exact h1 | sl_exact h2)
  sl_step
  iapply Hk
  isplitl [H0]
  · iexists f; isplitr; · ipureintro; exact hf
    iexact H0
  iexists _; isplitr; swap; · iexact H1
  ipureintro
  refine (View.read_writes_full B.view g inb_S1x1_S1x1_0_0 _ []).trans ?_
  rw [(View.readAt_full A.view f inb_S1024x2048_S1024x2048_0_0).trans hf]
  exact funext fun _ => congrArg (k0_pay2 x) (congrFun ((View.readAt_full B.view g inb_S1x1_S1x1_0_0).trans hg) _)

/-- The quantizing kernel leaves in its output block the payload of the word and the block it reads. -/
theorem quant_run (c : Dev nD) (i : grid1.Coords) (A : Memref sig .tc .smem S1x1 .f32) (hA : A.IsWhole)
    (B : Memref sig .tc .vmem S1024x2048 .f32) (hB : B.IsWhole) (C : Memref sig .tc .vmem S1024x2048 .f32) (hC : C.IsWhole)
    (y : F .f32) (x : Vec F S1024x2048 .f32) (E : Set ℕ) (K : PUnit → sProp 𝕄) :
    iprop(owns (c : Thread nD τ) A fullShare (fun _ => y) ∗ owns (c : Thread nD τ) B fullShare x ∗ (∃ d, owns (c : Thread nD τ) C fullShare d)
        ∗ (iprop(owns (c : Thread nD τ) A fullShare (fun _ => y) ∗ owns (c : Thread nD τ) B fullShare x
            ∗ owns (c : Thread nD τ) C fullShare (k1_pay1 y x)) -∗ K ⟨⟩))
      ⊢ wp frame (wpE (defs₀ (F := F)) Variants.none c none) E (cc1__quant_kernel i A hA B hB C hC) K := by
  simp only [cc1__quant_kernel_eq_skeleton]
  unfold cc1__quant_kernel_skel owns
  iintro ⟨⟨%f, %hf, H0⟩, ⟨%g, %hg, H1⟩, ⟨%d, %u, -, H2⟩, Hk⟩
  sl_exec
  sl_step
  iapply Hk
  isplitl [H0]
  · iexists f; isplitr; · ipureintro; exact hf
    iexact H0
  isplitl [H1]
  · iexists g; isplitr; · ipureintro; exact hg
    iexact H1
  iexists _; isplitr; swap; · iexact H2
  ipureintro
  refine (View.read_writes_full C.view u inb_S1024x2048_S1024x2048_0_0 _ []).trans ?_
  rw [(View.readAt_full B.view g inb_S1024x2048_S1024x2048_0_0).trans hg]
  exact congrArg (fun w => k1_pay1 w x) (congrFun ((View.readAt_full A.view f inb_S1x1_S1x1_0_0).trans hf) _)

end Cert.Proof

end
-- ==== Proof.RegionA.lean ====
/-
  The absolute-maximum region, entered from any contents `W` of the buffers: what its one-word output holds after
  each grid point (`running`), its proof data (`datA`), and the statement that every call of its body does what the
  proof data say (`bodyA`).
-/
module

public import proofs.«01_k».proof.Proof.Bodies
public import Idealize.ShloMosaic.Lib.Pipeline.TableIdle

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (W : Dev nD → Valuation τ sig (Elt F))

/-- The input's block of 1024 rows at point `t`, read off the buffers as the region finds them. -/
def blockA (c : Dev nD) (t : Fin cfg0.N) : Vec F S1024x2048 .f32 :=
  ((cfg0.win 0).blk t).view.read (Elt F) (W c (Proc.devRef .tc (Pipeline.arrRef spec0 0)))

/-- The running largest absolute value after point `n`: the first block's, then the larger of the one before and
    the next block's. -/
def running (c : Dev nD) : (n : ℕ) → n < cfg0.N → F .f32
  | 0, h => k0_pay1 (blockA W c ⟨0, h⟩)
  | n + 1, h => k0_pay2 (blockA W c ⟨n + 1, h⟩) (running c n (Nat.lt_of_succ_lt h))

/-- The proof data: the arrays as found; after each point the input's buffer at its block and the one-word output at
    the running largest absolute value; nothing owed; full shares. -/
def datA (c : Dev nD) : Dat τ (Elt F) Unit ℕ (UR sig nD τ) ℕ cfg0 c where
  A w := W c (Proc.devRef .tc (Pipeline.arrRef spec0 w))
  after w t := match w with
    | ⟨0, _⟩ => blockA W c t
    | ⟨1, _⟩ => fun _ => running W c t.val t.isLt
  Φ _ := Pipeline.ΦA spec0 c
  q _ := fullShare
  owed _ := 0

/-- The arrays are as the region finds them. -/
theorem datA_A (c : Dev nD) (w : Fin cfg0.W) : (datA W c).A w = W c (Proc.devRef .tc (Pipeline.arrRef spec0 w)) := by
  dsimp only [datA]
/-- After a point the input's buffer holds its block, -/
theorem datA_after0 (c : Dev nD) (t : Fin cfg0.N) : (datA W c).after 0 t = blockA W c t := by dsimp only [datA]
/-- and the output's word the running largest absolute value. -/
theorem datA_after1 (c : Dev nD) (t : Fin cfg0.N) : (datA W c).after 1 t = fun _ => running W c t.val t.isLt := by
  dsimp only [datA]

/-! ## The body's branches, point by point -/

/-- The first branch is taken at the first point only. -/
theorem branch_first : ∀ t : Fin cfg0.N, k0_cond1 (grid0.coords t) = 1#1 ↔ t.val = 0 :=
  (by decide +kernel : ∀ t : Fin grid0.N, k0_cond1 (grid0.coords t) = 1#1 ↔ t.val = 0)
/-- The second branch is taken at every later point. -/
theorem branch_next : ∀ t : Fin cfg0.N, k0_cond2 (grid0.coords t) = 1#1 ↔ 1 ≤ t.val :=
  (by decide +kernel : ∀ t : Fin grid0.N, k0_cond2 (grid0.coords t) = 1#1 ↔ 1 ≤ t.val)

/-- The input is read at every point. -/
theorem live_in (t : Fin cfg0.N) : cfg0.idle 0 (grid0.coords t) = false := rfl
/-- The output is stored into at every point. -/
theorem live_out : ∀ t : Fin cfg0.N, cfg0.idle 1 (grid0.coords t) = false := by decide +kernel

/-- Whether the output's buffer still holds nothing stored before position `n`: only before the first point, and
    after the last one, when it has been written back. -/
def freshOut : ℕ → Bool
  | 0 => true
  | n + 1 => (0x80000000 : ℕ).testBit n
/-- From one point to the next that changes as write-backs and stores do. -/
theorem freshOut_step : ∀ t : Fin cfg0.N,
    freshOut (t.val + 1) = ((cfg0.win 1).flush t || (cfg0.idle 1 (cfg0.grid.coords t) && freshOut t.val)) := by
  decide +kernel
/-- At a later point the output's buffer holds what an earlier point stored. -/
theorem kept_out : ∀ t : Fin cfg0.N, 1 ≤ t.val → cfg0.fresh 1 t.val = false := by
  intro t
  rw [Pipeline.Cfg.fresh_tab cfg0 1 freshOut rfl freshOut_step t.val (Nat.le_of_lt t.isLt)]
  revert t; decide +kernel

/-- When the body runs, the input's buffer holds its block. -/
theorem beforeA0 (c : Dev nD) (t : Fin cfg0.N) (d) : (datA W c).before 0 t d = blockA W c t :=
  ((datA W c).before_in_eq_fetched 0 rfl (fun _ => rfl) (fun _ _ _ => rfl)
      (fun t => by rw [datA_after0]; unfold Dat.blockOf blockA; rw [datA_A]) t d).trans
    (by unfold Dat.fetched Dat.blockOf blockA; rw [datA_A]; rfl)

/-- When the body runs at a later point, the output's word is what the point before left. -/
theorem beforeA1 (c : Dev nD) (t : Fin cfg0.N) (h : 1 ≤ t.val) (d) :
    (datA W c).before 1 t d = fun _ => running W c (t.val - 1) (Nat.lt_of_le_of_lt (Nat.sub_le _ _) t.isLt) := by
  rw [Dat.before_out_traj _ 1 rfl (fun _ _ => rfl)
      (fun t _ hi _ => absurd ((live_out t).symm.trans hi) Bool.false_ne_true) t.val t rfl d,
    if_neg (by rw [kept_out t h]; exact Bool.false_ne_true)]
  dsimp only [datA]

/-- After a later point: the larger of what was there and the block's largest absolute value. -/
theorem running_next (c : Dev nD) (t : Fin cfg0.N) (h : 1 ≤ t.val) :
    running W c t.val t.isLt = k0_pay2 (blockA W c t) (running W c (t.val - 1) (Nat.lt_of_le_of_lt (Nat.sub_le _ _) t.isLt)) := by
  obtain ⟨n, hn⟩ := t
  cases n with
  | zero => exact absurd h (Nat.not_succ_le_zero 0)
  | succ n => rfl

/-- What the body is called with at point `t`. -/
def preA (c : Dev nD) (t : Fin cfg0.N) : sProp 𝕄 :=
  iprop((datA W c).Φ t.castSucc ∗ (datA W c).owesAt () t.castSucc
    ∗ (∃ d, owns (c : Thread nD τ) (win0_0.stage (cfg0.slots t 0)) fullShare ((datA W c).before 0 t d))
    ∗ (∃ d, owns (c : Thread nD τ) (win0_1.stage (cfg0.slots t 1)) fullShare ((datA W c).before 1 t d)))

/-- What the body returns at point `t`. -/
def postA (c : Dev nD) (t : Fin cfg0.N) : sProp 𝕄 :=
  iprop((datA W c).Φ t.succ ∗ (datA W c).owesAt () t.succ ∗ (datA W c).leavesExact 0 t ∗ (datA W c).leavesExact 1 t)

/-- At every grid point the body, called with the buffers as the proof data say, returns them as they say. -/
theorem callA (c : Dev nD) (t : Fin cfg0.N) :
    preA W c t ⊢ wp frame (wpE (defs₀ (F := F)) Variants.none c none) Set.univ (bodyAt0 t) (fun _ => postA W c t) := by
  unfold preA postA bodyAt0
  simp only [beforeA0]
  rw [show (datA W c).Φ t.succ = (datA W c).Φ t.castSucc from rfl,
    show (datA W c).owesAt () t.succ = (datA W c).owesAt () t.castSucc from rfl,
    show (datA W c).leavesExact 0 t = owns (c : Thread nD τ) (win0_0.stage (cfg0.slots t 0)) fullShare ((datA W c).after 0 t) from by
      unfold Dat.leavesExact; rw [live_in t],
    show (datA W c).leavesExact 1 t = owns (c : Thread nD τ) (win0_1.stage (cfg0.slots t 1)) fullShare ((datA W c).after 1 t) from by
      unfold Dat.leavesExact; rw [live_out t], datA_after0, datA_after1]
  by_cases h : 1 ≤ t.val
  · simp only [beforeA1 W c t h]
    rw [running_next W c t h]
    iintro ⟨HΦ, Ho, ⟨%d0, H0⟩, ⟨%d1, H1⟩⟩
    iapply (absmax_next c (grid0.coords t) _ _ _ _ (fun e => absurd ((branch_first t).mp e) (by omega)) ((branch_next t).mpr h) _ _ Set.univ _)
    isplitl [H0]; · iexact H0
    isplitl [H1]; · iexact H1
    iintro ⟨H0, H1⟩
    isplitl [HΦ]; · iexact HΦ
    isplitl [Ho]; · iexact Ho
    isplitl [H0]; · iexact H0
    iexact H1
  · have h0 : t.val = 0 := by omega
    obtain ⟨n, hn⟩ := t
    obtain rfl : n = 0 := h0
    unfold running
    iintro ⟨HΦ, Ho, ⟨%d0, H0⟩, ⟨%d1, H1⟩⟩
    iapply (absmax_first c (grid0.coords ⟨0, hn⟩) _ _ _ _ ((branch_first _).mpr rfl) (fun e => absurd ((branch_next _).mp e) (Nat.not_succ_le_zero 0)) _ Set.univ _)
    isplitl [H0]; · iexact H0
    isplitl [H1]; · iexists _; iexact H1
    iintro ⟨H0, H1⟩
    isplitl [HΦ]; · iexact HΦ
    isplitl [Ho]; · iexact Ho
    isplitl [H0]; · iexact H0
    iexact H1

/-- The body that the pipeline calls at point `t` is the absolute-maximum kernel on the current buffers. -/
theorem rowA (t : Fin cfg0.N) : defs₀ (F := F) .tc cfg0.body (cfg0.bodyArgs t (cfg0.slots t)) = bodyAt0 t := by
  unfold defs₀; rw [Defs.onTc_tc]

/-- Every call of the body does what the proof data say. -/
theorem bodyA (c : Dev nD) : BodyObligation (datA (F := F) W c) (defs₀ (F := F)) Variants.none () Set.univ := fun t => by
  rw [bigSep_W0, bigSep_W0, rowA]
  exact triple_restated (callA W c t) rfl .rfl fun _ => .rfl

end Cert.Proof

end
-- ==== Proof.RegionB.lean ====
/-
  The quantizing region, entered from any contents `W` of the buffers: its proof data (`datB`), and the statement
  that every call of its body does what the proof data say (`bodyB`).
-/
module

public import proofs.«01_k».proof.Proof.Bodies

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (W : Dev nD → Valuation τ sig (Elt F))

/-- The one word read at point `t`, as a block. -/
def wordBlockB (c : Dev nD) (t : Fin cfg1.N) : Vec F S1x1 .f32 :=
  ((cfg1.win 0).blk t).view.read (Elt F) (W c (Proc.devRef .tc (Pipeline.arrRef spec1 0)))

/-- The one word the region reads: the largest absolute value. -/
def wordB (c : Dev nD) : F .f32 := (W c (Proc.devRef .tc (Pipeline.arrRef spec1 0)) : Vec F S1x1 .f32) (Shape.Idx.first (s := S1x1) (by decide))

/-- A one-by-one array has one index. -/
theorem idx_one (i j : S1x1.Idx) : i = j := by
  funext k
  match k with
  | ⟨0, _⟩ => exact Subsingleton.elim (α := Fin 1) _ _
  | ⟨1, _⟩ => exact Subsingleton.elim (α := Fin 1) _ _

/-- The block read at any point is the word. -/
theorem wordBlockB_eq (c : Dev nD) (t : Fin cfg1.N) : wordBlockB W c t = fun _ => wordB W c := by
  funext i
  exact congrArg (W c (Proc.devRef .tc (Pipeline.arrRef spec1 0)) : Vec F S1x1 .f32) (idx_one _ _)

/-- The input's block of 1024 rows at point `t`, read off the buffers as the region finds them. -/
def blockB (c : Dev nD) (t : Fin cfg1.N) : Vec F S1024x2048 .f32 :=
  ((cfg1.win 1).blk t).view.read (Elt F) (W c (Proc.devRef .tc (Pipeline.arrRef spec1 1)))

/-- The proof data: the arrays as found; after each point the inputs' buffers at their blocks and the output's at the
    quantized block; nothing owed; full shares. -/
def datB (c : Dev nD) : Dat τ (Elt F) Unit ℕ (UR sig nD τ) ℕ cfg1 c where
  A w := W c (Proc.devRef .tc (Pipeline.arrRef spec1 w))
  after w t := match w with
    | ⟨0, _⟩ => wordBlockB W c t
    | ⟨1, _⟩ => blockB W c t
    | ⟨2, _⟩ => k1_pay1 (wordB W c) (blockB W c t)
  Φ _ := Pipeline.ΦA spec1 c
  q _ := fullShare
  owed _ := 0

/-- The arrays are as the region finds them. -/
theorem datB_A (c : Dev nD) (w : Fin cfg1.W) : (datB W c).A w = W c (Proc.devRef .tc (Pipeline.arrRef spec1 w)) := by
  dsimp only [datB]
/-- After a point the one-word input's buffer holds the word, -/
theorem datB_after0 (c : Dev nD) (t : Fin cfg1.N) : (datB W c).after 0 t = wordBlockB W c t := by dsimp only [datB]
/-- the large input's its block, -/
theorem datB_after1 (c : Dev nD) (t : Fin cfg1.N) : (datB W c).after 1 t = blockB W c t := by dsimp only [datB]
/-- and the output's the quantized block. -/
theorem datB_after2 (c : Dev nD) (t : Fin cfg1.N) : (datB W c).after 2 t = k1_pay1 (wordB W c) (blockB W c t) := by
  dsimp only [datB]

/-- When the body runs, the one-word input's buffer holds the word. -/
theorem beforeB0 (c : Dev nD) (t : Fin cfg1.N) (d) : (datB W c).before 0 t d = fun _ => wordB W c :=
  (((datB W c).before_in_eq_fetched 0 rfl (fun _ => rfl) (fun _ _ _ => rfl)
      (fun t => by rw [datB_after0]; unfold Dat.blockOf wordBlockB; rw [datB_A]) t d).trans
    (by unfold Dat.fetched Dat.blockOf; rw [datB_A]; rfl)).trans (wordBlockB_eq W c t)

/-- When the body runs, the large input's buffer holds its block. -/
theorem beforeB1 (c : Dev nD) (t : Fin cfg1.N) (d) : (datB W c).before 1 t d = blockB W c t :=
  ((datB W c).before_in_eq_fetched 1 rfl (fun _ => rfl) (fun _ _ _ => rfl)
      (fun t => by rw [datB_after1]; unfold Dat.blockOf blockB; rw [datB_A]) t d).trans
    (by unfold Dat.fetched Dat.blockOf blockB; rw [datB_A]; rfl)

/-- What the body is called with at point `t`. -/
def preB (c : Dev nD) (t : Fin cfg1.N) : sProp 𝕄 :=
  iprop((datB W c).Φ t.castSucc ∗ (datB W c).owesAt () t.castSucc
    ∗ (∃ d, owns (c : Thread nD τ) (win1_0.stage (cfg1.slots t 0)) fullShare ((datB W c).before 0 t d))
    ∗ (∃ d, owns (c : Thread nD τ) (win1_1.stage (cfg1.slots t 1)) fullShare ((datB W c).before 1 t d))
    ∗ (∃ d, owns (c : Thread nD τ) (win1_2.stage (cfg1.slots t 2)) fullShare ((datB W c).before 2 t d)))

/-- What the body returns at point `t`. -/
def postB (c : Dev nD) (t : Fin cfg1.N) : sProp 𝕄 :=
  iprop((datB W c).Φ t.succ ∗ (datB W c).owesAt () t.succ
    ∗ owns (c : Thread nD τ) (win1_0.stage (cfg1.slots t 0)) fullShare ((datB W c).after 0 t)
    ∗ owns (c : Thread nD τ) (win1_1.stage (cfg1.slots t 1)) fullShare ((datB W c).after 1 t)
    ∗ owns (c : Thread nD τ) (win1_2.stage (cfg1.slots t 2)) fullShare ((datB W c).after 2 t))

/-- At every grid point the body, called with the buffers as the proof data say, returns them as they say. -/
theorem callB (c : Dev nD) (t : Fin cfg1.N) :
    preB W c t ⊢ wp frame (wpE (defs₀ (F := F)) Variants.none c none) Set.univ (bodyAt1 t) (fun _ => postB W c t) := by
  unfold preB postB bodyAt1
  simp only [beforeB0, beforeB1]
  rw [show (datB W c).Φ t.succ = (datB W c).Φ t.castSucc from rfl,
    show (datB W c).owesAt () t.succ = (datB W c).owesAt () t.castSucc from rfl, datB_after0, datB_after1, datB_after2,
    wordBlockB_eq]
  iintro ⟨HΦ, Ho, ⟨%d0, H0⟩, ⟨%d1, H1⟩, ⟨%d2, H2⟩⟩
  iapply (quant_run c (grid1.coords t) _ _ _ _ _ _ _ _ Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body that the pipeline calls at point `t` is the quantizing kernel on the current buffers. -/
theorem rowB (t : Fin cfg1.N) : defs₀ (F := F) .tc cfg1.body (cfg1.bodyArgs t (cfg1.slots t)) = bodyAt1 t := by
  unfold defs₀; rw [Defs.onTc_tc]

/-- Every call of the body does what the proof data say. -/
theorem bodyB (c : Dev nD) : BodyObligation (datB (F := F) W c) (defs₀ (F := F)) Variants.none () Set.univ := fun t => by
  rw [bigSep_W1, bigSep_W1, rowB]
  exact triple_restated (callB W c t) rfl .rfl fun _ => .rfl

end Cert.Proof

end
-- ==== Proof.Run.lean ====
/-
  The whole program run, at any float instance: a reshape, the two regions one after the other, a reshape.
  `run_whole` names what the result array holds at the end, says that the argument is unchanged, and that every
  semaphore counter is zero.
-/
module

public import proofs.«01_k».proof.Proof.RegionA
public import proofs.«01_k».proof.Proof.RegionB
public import proofs.«01_k».proof.Proof.Gen.KernelIdeal.Regions
public import Idealize.ShloMosaic.Lib.Pipeline.RegionArraysS

@[expose] public section

set_option maxRecDepth 16384

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents between the items -/

/-- The buffers after the absolute-maximum region. -/
def afterA (c : Dev nD) : Valuation τ sig (Elt F) := Pipeline.afterRegion (datA (V1 m) c) (V1 m c)
/-- The buffers after the quantizing region. -/
def afterB (c : Dev nD) : Valuation τ sig (Elt F) := Pipeline.afterRegion (datB (afterA m) c) (afterA m c)
/-- The buffers at the end. -/
def atEnd (c : Dev nD) : Valuation τ sig (Elt F) := StableHlo.after hostOps2 (afterB m c)

/-- No item writes the argument. -/
theorem atEnd_arg (c : Dev nD) : atEnd m c main_arg0 = m ((c : Thread nD τ).loc main_arg0) := by
  refine (StableHlo.after_of_writes_sub hostOps2 _ hostOps2_writes (r := main_arg0) (by decide)).trans ?_
  unfold afterB
  rw [Pipeline.afterRegion_of_not_arr _ _ (b := main_arg0) (by decide)]
  unfold afterA
  rw [Pipeline.afterRegion_of_not_arr _ _ (b := main_arg0) (by decide)]
  exact V1_of m c main_arg0 (by decide)

/-! ## The regions' records -/

/-- The proof data of the two regions. -/
def pdats : (p : Fin 2) → (c : Dev nD) → Dat τ (Elt F) Unit ℕ (UR sig nD τ) ℕ (cfgs p) c
  | ⟨0, _⟩ => fun c => datA (V1 m) c
  | ⟨1, _⟩ => fun c => datB (afterA m) c

/-- The levels: every semaphore of a TensorCore has the one index, at level zero; no core owes another anything. -/
def L : GSem nD τ sig → Finset Unit := fun g => if g.1.2 = .tc then {()} else ∅
/-- Every semaphore is at level zero. -/
abbrev lv : GSem nD τ sig → Unit → ℕ := fun _ _ => 0
/-- No core owes another anything. -/
abbrev owed : Dev nD → CellTallies nD τ sig Unit := fun _ => 0

/-- So the levels meet what each region asks of them. -/
theorem levelCut (p : Fin 2) : Pipeline.LevelCut (pcfgs (F := F)) adm () L lv p owed (fun _ => 0) where
  hι c w s := by unfold L; rw [if_pos rfl]; exact Finset.mem_singleton.mpr rfl
  hιb _ _ _ := Nat.le_refl 0
  hD _ _ _ h := absurd h (lt_irrefl _)

/-- The generator register, which each region borrows. -/
abbrev reg (c : Dev nD) : sProp 𝕄 := iprop(∃ r, prngReg c r)
/-- What rides beside the buffers from item to item: what the core owes (nothing) and the generator register. -/
abbrev beside (c : Dev nD) : sProp 𝕄 := iprop((∃ Wd, owes (c : Thread nD τ) (owed c) Wd) ∗ reg c ∗ BI.emp)

set_option backward.isDefEq.respectTransparency.types false in
/-- The absolute-maximum region, over every buffer of the program. -/
def recA : RegionSeg (pcfgs (F := F)) adm (pdats m) () defs₀ Variants.none L lv 0 :=
  RegionSeg.ofHeldIn (pcfgs (F := F)) adm (pdats m) () defs₀ Variants.none L lv 0 owed (Pipeline.ucRefs τ sig) reg reg
    launch0.toP rfl (fun c => (bodyA (V1 m) c).loose) (fun _ _ => rfl) (fun _ => rfl)
    (fun c => (datA (V1 m) c).share_full fun _ => rfl) (fun _ => .rfl) (fun _ => .rfl)
    (fun _ => 0) (levelCut 0) (fun _ => BI.emp) (V1 m) (fun c w => datA_A (V1 m) c w)

set_option backward.isDefEq.respectTransparency.types false in
/-- The quantizing region, over every buffer of the program. -/
def recB : RegionSeg (pcfgs (F := F)) adm (pdats m) () defs₀ Variants.none L lv 1 :=
  RegionSeg.ofHeldIn (pcfgs (F := F)) adm (pdats m) () defs₀ Variants.none L lv 1 owed (Pipeline.ucRefs τ sig) reg reg
    launch1.toP rfl (fun c => (bodyB (afterA m) c).loose) (fun _ _ => rfl) (fun _ => rfl)
    (fun c => (datB (afterA m) c).share_full fun _ => rfl) (fun _ => .rfl) (fun _ => .rfl)
    (fun _ => 0) (levelCut 1) (fun _ => BI.emp) (afterA m) (fun c w => datB_A (afterA m) c w)

/-- The regions' arrays are among the program's unscoped buffers. -/
theorem arrays_A : Pipeline.arrRefs (τ := τ) spec0 ⊆ Pipeline.ucRefs τ sig := Pipeline.arrRefs_sub_ucRefs spec0 (by decide)
/-- So are the second's. -/
theorem arrays_B : Pipeline.arrRefs (τ := τ) spec1 ⊆ Pipeline.ucRefs τ sig := Pipeline.arrRefs_sub_ucRefs spec1 (by decide)

/-- Before the first region: every buffer as the reshape left it. -/
theorem recA_pre (c : Dev nD) :
    iprop(StableHlo.held (c : Thread nD τ) (Pipeline.ucRefs τ sig) (V1 m c) ∗ beside c) ⊢ (recA m).pre c := by
  unfold recA
  exact RegionSeg.ofHeldIn_pre (pcs := pcfgs (F := F)) (a := adm) (pdats := pdats m) (ι := ()) (defs₀ := defs₀)
    (𝒱₀ := Variants.none) (L := L) (lv := lv) (p := 0) (D := owed) (X := reg) (Y := reg) (W := V1 m) (R := fun _ => BI.emp) arrays_A c
/-- After it: the buffers with its arrays replaced. -/
theorem recA_post (c : Dev nD) :
    (recA m).post c ⊢ iprop(StableHlo.held (c : Thread nD τ) (Pipeline.ucRefs τ sig) (afterA m c) ∗ beside c) := by
  unfold recA
  exact RegionSeg.ofHeldIn_post (pcs := pcfgs (F := F)) (a := adm) (pdats := pdats m) (ι := ()) (defs₀ := defs₀)
    (𝒱₀ := Variants.none) (L := L) (lv := lv) (p := 0) (D := owed) (X := reg) (Y := reg) (W := V1 m) (R := fun _ => BI.emp) arrays_A c
/-- Before the second region: the buffers as the first left them. -/
theorem recB_pre (c : Dev nD) :
    iprop(StableHlo.held (c : Thread nD τ) (Pipeline.ucRefs τ sig) (afterA m c) ∗ beside c) ⊢ (recB m).pre c := by
  unfold recB
  exact RegionSeg.ofHeldIn_pre (pcs := pcfgs (F := F)) (a := adm) (pdats := pdats m) (ι := ()) (defs₀ := defs₀)
    (𝒱₀ := Variants.none) (L := L) (lv := lv) (p := 1) (D := owed) (X := reg) (Y := reg) (W := afterA m) (R := fun _ => BI.emp) arrays_B c
/-- After it: the buffers with its arrays replaced. -/
theorem recB_post (c : Dev nD) :
    (recB m).post c ⊢ iprop(StableHlo.held (c : Thread nD τ) (Pipeline.ucRefs τ sig) (afterB m c) ∗ beside c) := by
  unfold recB
  exact RegionSeg.ofHeldIn_post (pcs := pcfgs (F := F)) (a := adm) (pdats := pdats m) (ι := ()) (defs₀ := defs₀)
    (𝒱₀ := Variants.none) (L := L) (lv := lv) (p := 1) (D := owed) (X := reg) (Y := reg) (W := afterA m) (R := fun _ => BI.emp) arrays_B c

/-- The last item: the closing reshape, from the buffers as the second region leaves them. -/
def lastSeg : HostSeg (Ix := Unit) (Name := ℕ) (U := UR sig nD τ) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (afterB m) beside

/-- The program's items in order. -/
abbrev items (_ : Dev nD) : List (Seg (pcfgs (F := F)) adm (pdats m) () defs₀ Variants.none L lv) :=
  [.host (seg0 m Variants.none L lv fun _ => beside), .region (recA m), .region (recB m), .host (lastSeg m)]

/-! ## The run -/

set_option backward.isDefEq.respectTransparency.types false in
/-- From any memory with zero counters every fair execution of the program terminates; at the end the result array
    holds what `atEnd` says, the argument is as launched, and every semaphore counter is zero. -/
theorem run_whole (ρ : Dev nD → PrngReg) :
    θ_run defs (onTc (τ := τ) (main (F := F))) ⟨m, fun _ => 0, ρ⟩ (fun r => (∀ c : Dev nD,
      r.2.mem ((c.tc : Thread nD τ).loc main_v3) = atEnd m c main_v3
      ∧ r.2.mem ((c.tc : Thread nD τ).loc main_arg0) = m ((c.tc : Thread nD τ).loc main_arg0))
      ∧ r.2.sem = fun _ => 0) := by
  refine Pipeline.θ_run_regions_kit_dev_sems (pcfgs (F := F)) adm (pdats m) () cellOf_inj emb₁ defs₀ Variants.none L lv m ρ main
    (items m)
    (fun c Q => by
      rewrite [main_chain c, Seg.run_eq_chain,
        show (items m c).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [items, Seg.pipes_host, Seg.pipes_region, Seg.pipes_nil]; decide)
    owed (fun g hg => if_neg hg) (fun _ => BI.emp)
    (initOf (Pipeline.cells cfgs cellOf_inj) (Pipeline.launchToks cfgs cellOf_inj))
    (hu₀ := ?_)
    (T₀ := fun c => iprop(StableHlo.held (c : Thread nD τ) (Pipeline.ucRefs τ sig) (V0 m c) ∗ beside c))
    (Tₙ := fun c => StableHlo.held (c : Thread nD τ) (Pipeline.ucRefs τ sig) (atEnd m c))
    (hch := fun c => ⟨.rfl, recA_pre m c, (recA_post m c).trans (recB_pre m c), recB_post m c, sep_mono .rfl ?_⟩)
    (hinit := Pipeline.initEach L lv fun c => ?_)
    (QY := fun c s => s.mem ((c.tc : Thread nD τ).loc main_v3) = atEnd m c main_v3
      ∧ s.mem ((c.tc : Thread nD τ).loc main_arg0) = m ((c.tc : Thread nD τ).loc main_arg0))
    (hfin := fun c s' => ?_) (hQ := fun _ h hz => ⟨h, funext fun g => hz g (.inr (regions_no_unscoped g.2))⟩)
  · rw [ownU_emb₁]
    iintro H
    imodintro
    isplitl [H]; · iexact H
    rw [BI.bigSep_emp_const]
    iempintro
  · iintro ⟨HO, -⟩; iexact HO
  · rw [← Pipeline.unscopedBufs_held (Ix := Unit) (Name := ℕ) (U := UR sig nD τ) (Lvl := ℕ) c (V0 m c)]
    iintro ⟨⟨Hb, -, HO, -, Hr, -⟩, -⟩
    imodintro
    isplitl [Hb]; · iexact Hb
    isplitl [HO]; · iexists _; iexact HO
    isplitl [Hr]; · iexists _; iexact Hr
    iempintro
  · unfold StableHlo.held
    iintro ⟨Hh, HSI⟩
    ihave Hr := (pointsTo_read_all (Pipeline.ucRefs τ sig) (fun b => ((c : Thread nD τ).1, b)) (atEnd m c) s') $$ [Hh HSI]
    · isplitl [Hh] <;> iassumption
    icases Hr with ⟨%h, HSI⟩
    imodintro
    isplitr
    · ipureintro
      exact ⟨h (Proc.devRef .tc main_v3) (Finset.mem_filter.mpr ⟨StableHlo.devRef_mem_tcRefs main_v3, by decide⟩),
        (h (Proc.devRef .tc main_arg0) (Finset.mem_filter.mpr ⟨StableHlo.devRef_mem_tcRefs main_arg0, by decide⟩)).trans
          (atEnd_arg m c)⟩
    · iexact HSI

end Cert.Proof

end
-- ==== Proof.Arrays.lean ====
/-
  What the two regions leave in their arrays, at any float instance: region A the running largest absolute value of the
  last point in its one word, region B each element quantized with that word. And the result array at the end, element
  by element, in terms of the argument.
-/
module

public import proofs.«01_k».proof.Proof.Run
public import Idealize.ShloMosaic.Lib.Pipeline.Value

@[expose] public section

set_option maxRecDepth 16384

noncomputable section

namespace Cert.Proof

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

/-! ## One element -/

/-- The kernel's function of one element `y`, at the largest absolute value `s`. -/
def quantOne (s y : F .f32) : F .f32 :=
  let step : F .f32 := Scalar.divf s (FloatOps.ofBits .f32 0x427C0000#32)
  let q : F .f32 := FloatOps.minimumf (FloatOps.ofBits .f32 0x427C0000#32)
    (FloatOps.maximumf (FloatOps.ofBits .f32 0xC2800000#32) (FloatOps.roundeven (FloatOps.divf y step)))
  Scalar.select (Scalar.cmpf .ogt s (FloatOps.ofBits .f32 0x00000000#32))
    (FloatOps.addf y (FloatOps.subf (FloatOps.mulf q step) y)) y

/-- The quantized block at an index is the function of the block's element there. -/
theorem k1_pay1_apply (s : F .f32) (v : Vec F S1024x2048 .f32) (i : S1024x2048.Idx) :
    k1_pay1 s v i = quantOne s (v i) := by
  have e : shapeCast S1024x2048 v shapeCasts_S1024x2048_S1024x2048 = v := shapeCast_self v _
  unfold k1_pay1
  simp only [e]
  unfold quantOne Scalar.select
  dsimp only
  split_ifs with h
  · rfl
  · rfl

/-! ## Where a block sits -/

/-- Point `t` of the first region works on the `t`-th block of rows. -/
theorem rowsA : ∀ t : Fin grid0.N, win0_0.index t 0 * win0_0.size 0 = t.val * 1024 ∧ win0_0.index t 1 * win0_0.size 1 = 0 := by
  decide +kernel
/-- Point `t` of the second region works on the `t`-th block of rows, in the input -/
theorem rowsB1 : ∀ t : Fin grid1.N, win1_1.index t 0 * win1_1.size 0 = t.val * 1024 ∧ win1_1.index t 1 * win1_1.size 1 = 0 := by
  decide +kernel
/-- and in the output. -/
theorem rowsB2 : ∀ t : Fin grid1.N, win1_2.index t 0 * win1_2.size 0 = t.val * 1024 ∧ win1_2.index t 1 * win1_2.size 1 = 0
    ∧ win1_2.xsize (grid1.coords t) 0 = 1024 ∧ win1_2.xsize (grid1.coords t) 1 = 2048 := by
  decide +kernel

/-- The first region's output block is the one word, at every point. -/
theorem wordA : ∀ t : Fin grid0.N, win0_1.index t 0 * win0_1.size 0 = 0 ∧ win0_1.index t 1 * win0_1.size 1 = 0
    ∧ win0_1.xsize (grid0.coords t) 0 = 1 ∧ win0_1.xsize (grid0.coords t) 1 = 1 := by
  decide +kernel

/-- Row `j 0` of block `t` is row `1024 t + j 0` of the array. -/
def placeAt (t : ℕ) (ht : t < 32) (j : S1024x2048.Idx) : S32768x2048.Idx
  | ⟨0, _⟩ => ⟨t * 1024 + (j 0).val, by have := (j 0).isLt; show _ < 32768; change _ < 1024 at this; omega⟩
  | ⟨1, _⟩ => ⟨(j 1).val, (j 1).isLt⟩

/-- Every index of the array lies in a block. -/
theorem placeAt_surj (i : S32768x2048.Idx) : ∃ t, ∃ ht : t < 32, ∃ j, placeAt t ht j = i := by
  have h0 : (i 0).val < 32768 := (i 0).isLt
  refine ⟨(i 0).val / 1024, by omega, fun | ⟨0, _⟩ => ⟨(i 0).val % 1024, Nat.mod_lt _ (by decide)⟩ | ⟨1, _⟩ => ⟨(i 1).val, (i 1).isLt⟩, ?_⟩
  funext a
  match a with
  | ⟨0, _⟩ => exact Fin.ext (show (i 0).val / 1024 * 1024 + (i 0).val % 1024 = (i 0).val by omega)
  | ⟨1, _⟩ => rfl

variable (W : Dev nD → Valuation τ sig (Elt F))

/-- An element of the first region's block is the array's element at its place. -/
theorem blockA_apply (c : Dev nD) (t : Fin cfg0.N) (j : S1024x2048.Idx) :
    blockA W c t j = (W c main_v0 : Vec F S32768x2048 .f32) (placeAt t.val t.isLt j) := by
  refine congrArg (W c main_v0 : Vec F S32768x2048 .f32) (funext fun a => Fin.ext ?_)
  match a with
  | ⟨0, _⟩ =>
    show win0_0.index t 0 * win0_0.size 0 + 1 * (j 0).val = t.val * 1024 + (j 0).val
    rw [(rowsA t).1, Nat.one_mul]
  | ⟨1, _⟩ =>
    show win0_0.index t 1 * win0_0.size 1 + 1 * (j 1).val = (j 1).val
    rw [(rowsA t).2, Nat.one_mul, Nat.zero_add]

/-- An element of the second region's block is the array's element at its place. -/
theorem blockB_apply (c : Dev nD) (t : Fin cfg1.N) (j : S1024x2048.Idx) :
    blockB W c t j = (W c main_v0 : Vec F S32768x2048 .f32) (placeAt t.val t.isLt j) := by
  refine congrArg (W c main_v0 : Vec F S32768x2048 .f32) (funext fun a => Fin.ext ?_)
  match a with
  | ⟨0, _⟩ =>
    show win1_1.index t 0 * win1_1.size 0 + 1 * (j 0).val = t.val * 1024 + (j 0).val
    rw [(rowsB1 t).1, Nat.one_mul]
  | ⟨1, _⟩ =>
    show win1_1.index t 1 * win1_1.size 1 + 1 * (j 1).val = (j 1).val
    rw [(rowsB1 t).2, Nat.one_mul, Nat.zero_add]

/-! ## The output arrays -/

/-- The quantized array: every element of the input, quantized with the word. -/
def quantAll (s : F .f32) (x : Vec F S32768x2048 .f32) : Vec F S32768x2048 .f32 := fun i => quantOne s (x i)

/-- What a point of the second region writes back is its block of the quantized array. -/
theorem flushedB (c : Dev nD) (t : Fin cfg1.N) :
    (datB W c).flushed 2 t = ((cfg1.win 2).blk t).view.read (Elt F) (quantAll (wordB W c) (W c main_v0)) := by
  show (cfg1.win 2).cut (grid1.coords t) ((datB W c).after 2 t) = _
  rw [datB_after2]
  funext y
  refine (k1_pay1_apply _ _ _).trans (congrArg (quantOne (wordB W c)) ((blockB_apply W c t _).trans ?_))
  refine congrArg (W c main_v0 : Vec F S32768x2048 .f32) (funext fun a => Fin.ext ?_)
  match a with
  | ⟨0, _⟩ =>
    show t.val * 1024 + (y 0).val = win1_2.index t 0 * win1_2.size 0 + 1 * (y 0).val
    rw [(rowsB2 t).1, Nat.one_mul]
  | ⟨1, _⟩ =>
    show (y 1).val = win1_2.index t 1 * win1_2.size 1 + 1 * (y 1).val
    rw [(rowsB2 t).2.1, Nat.one_mul, Nat.zero_add]

/-- The second region's output blocks cover its array. -/
theorem coverB (i : S32768x2048.Idx) :
    ∃ t : Fin cfg1.N, (cfg1.win 2).flush t = true ∧ i ∈ ((cfg1.win 2).blk t).view.set := by
  have h0 : (i 0).val < 32768 := (i 0).isLt
  have h1 : (i 1).val < 2048 := (i 1).isLt
  have ht : (i 0).val / 1024 < cfg1.N := (by omega : (i 0).val / 1024 < 32)
  refine ⟨⟨(i 0).val / 1024, ht⟩, flush1_2 _, ?_⟩
  show i ∈ ((View.whole main_v2).slice (win1_2.rect ⟨(i 0).val / 1024, ht⟩)).set
  rw [View.set_slice_whole, Rect.mem_set_unit]
  obtain ⟨e0, e1, x0, x1⟩ := rowsB2 ⟨(i 0).val / 1024, ht⟩
  intro a
  match a with
  | ⟨0, _⟩ =>
    show win1_2.index _ 0 * win1_2.size 0 ≤ (i 0).val ∧ (i 0).val < win1_2.index _ 0 * win1_2.size 0 + win1_2.xsize _ 0
    rw [e0, x0]; dsimp only; omega
  | ⟨1, _⟩ =>
    show win1_2.index _ 1 * win1_2.size 1 ≤ (i 1).val ∧ (i 1).val < win1_2.index _ 1 * win1_2.size 1 + win1_2.xsize _ 1
    rw [e1, x1]; omega

/-- After the second region its output array is the quantized array. -/
theorem arrB (c : Dev nD) : (datB W c).arrAt 2 cfg1.N = quantAll (wordB W c) (W c main_v0) :=
  (datB W c).arrAt_eq_of_cover 2 (quantAll (wordB W c) (W c main_v0)) (fun t _ => flushedB W c t) coverB

/-- The largest absolute value the first region leaves: the running one after its last point. -/
def lastWord (c : Dev nD) : F .f32 := running W c 31 (by decide)

/-- The first region's output word is written back at the last point. -/
theorem coverA (i : S1x1.Idx) :
    ∃ t : Fin cfg0.N, (cfg0.win 1).flush t = true ∧ i ∈ ((cfg0.win 1).blk t).view.set := by
  have h0 : (i 0).val < 1 := (i 0).isLt
  have h1 : (i 1).val < 1 := (i 1).isLt
  have ht : 31 < cfg0.N := (by decide : 31 < 32)
  refine ⟨⟨31, ht⟩, (flush0_1 _).mpr rfl, ?_⟩
  show i ∈ ((View.whole main_v1).slice (win0_1.rect ⟨31, ht⟩)).set
  rw [View.set_slice_whole, Rect.mem_set_unit]
  obtain ⟨e0, e1, x0, x1⟩ := wordA ⟨31, ht⟩
  intro a
  match a with
  | ⟨0, _⟩ =>
    show win0_1.index _ 0 * win0_1.size 0 ≤ (i 0).val ∧ (i 0).val < win0_1.index _ 0 * win0_1.size 0 + win0_1.xsize _ 0
    rw [e0, x0]; omega
  | ⟨1, _⟩ =>
    show win0_1.index _ 1 * win0_1.size 1 ≤ (i 1).val ∧ (i 1).val < win0_1.index _ 1 * win0_1.size 1 + win0_1.xsize _ 1
    rw [e1, x1]; omega

/-- After the first region its one-word array is that value. -/
theorem arrA (c : Dev nD) : (datA W c).arrAt 1 cfg0.N = (fun _ => lastWord W c : Vec F S1x1 .f32) := by
  refine (datA W c).arrAt_eq_of_cover 1 (fun _ => lastWord W c : Vec F S1x1 .f32) (fun t hf => ?_) (fun i => ?_)
  · have h : t.val = 31 := by
      have := (flush0_1 t).mp hf
      have hl : t.val < 32 := t.isLt
      omega
    show (cfg0.win 1).cut (grid0.coords t) ((datA W c).after 1 t) = _
    rw [datA_after1]
    obtain ⟨n, hn⟩ := t
    subst h
    rfl
  · exact coverA i

/-! ## From the argument to the result -/

variable (m : (ℓ : Loc nD τ sig) → Buf (Elt F) ℓ)

/-- The argument as 32768 rows. -/
def rowsOf (c : Dev nD) : Vec F S32768x2048 .f32 :=
  shapeCast S32768x2048 (m ((c : Thread nD τ).loc main_arg0) : Vec F S4x8192x2048 .f32) shapeCasts_S4x8192x2048_S32768x2048

/-- After the first reshape the rows are the argument's. -/
theorem V1_rows (c : Dev nD) : V1 m c main_v0 = rowsOf m c := by
  unfold V1 rowsOf
  after_results
  rfl

/-- The first region keeps the rows. -/
theorem afterA_rows (c : Dev nD) : afterA m c main_v0 = rowsOf m c :=
  (Pipeline.afterRegion_keeps (datA (V1 m) c) (V1 m c) launch0.win.arr_inj (fun w => datA_A (V1 m) c w) main_v0
    (by decide)).trans (V1_rows m c)

/-- The word the second region reads. -/
theorem afterA_word (c : Dev nD) : wordB (afterA m) c = lastWord (V1 m) c := by
  unfold wordB
  have h := (Pipeline.afterRegion_arr (datA (V1 m) c) (V1 m c) launch0.win.arr_inj 1).trans (arrA (V1 m) c)
  exact congrFun h _

/-- The result at the end: the quantized rows, reshaped. -/
theorem atEnd_result (c : Dev nD) : atEnd m c main_v3
    = (shapeCast S4x8192x2048 (quantAll (lastWord (V1 m) c) (rowsOf m c)) shapeCasts_S32768x2048_S4x8192x2048 : Vec F S4x8192x2048 .f32) := by
  have h : afterB m c main_v2 = quantAll (lastWord (V1 m) c) (rowsOf m c) :=
    ((Pipeline.afterRegion_arr (datB (afterA m) c) (afterA m c) launch1.win.arr_inj 2).trans (arrB (afterA m) c)).trans
      (by rw [afterA_word, afterA_rows])
  rw [← h]
  unfold atEnd
  after_results
  rfl

/-- Element by element. -/
theorem atEnd_apply (c : Dev nD) (i : S4x8192x2048.Idx) : (atEnd m c main_v3 : Vec F S4x8192x2048 .f32) i
    = quantOne (lastWord (V1 m) c) ((m ((c : Thread nD τ).loc main_arg0) : Vec F S4x8192x2048 .f32) i) := by
  rw [atEnd_result]
  refine congrArg (quantOne (lastWord (V1 m) c)) ?_
  unfold rowsOf
  exact congrFun (shapeCast_shapeCast (m ((c : Thread nD τ).loc main_arg0) : Vec F S4x8192x2048 .f32) shapeCasts_S4x8192x2048_S32768x2048 shapeCasts_S32768x2048_S4x8192x2048) i

end Cert.Proof

end
-- ==== Proof.Constants.lean ====
/-
  The value of each float constant of the kernel and the reference that the proof reads.
-/
module

public import Idealize.ShloMosaic.PureOps.Ideal
public import Idealize.ShloMosaic.PureOps.Ideal.Laws
public import Idealize.ShloMosaic.Lib.IdealHost

@[expose] public section

noncomputable section

namespace Cert.Proof

open Idealize.ShloMosaic

/-- A word whose exponent field is neither zero nor all ones is a signed fraction times a power of two. -/
theorem const_normal (b : BitVec 32) (n : Bool) (ex fr : ℕ) (hn : (b.extractLsb' 31 1 == 1#1) = n)
    (he : (b.extractLsb' 23 8).toNat = ex) (hf : (b.extractLsb' 0 23).toNat = fr) (h0 : ex ≠ 0) (h1 : ex ≠ 255) :
    Ideal.ofBits .f32 b
      = (((if n then -1 else 1 : ℝ) * (2 ^ 23 + fr : ℕ) * (2 : ℝ) ^ ((ex : ℤ) - 127 - 23) : ℝ) : EReal) := by
  unfold Ideal.ofBits Ideal.ieee
  dsimp only
  rw [show (8 + 23 : ℕ) = 31 from rfl, hn, he, hf, if_neg (by omega), if_neg h0]
  norm_num

/-- Minus infinity, from which a maximum starts. -/
theorem c_bot : Ideal.ofBits .f32 0xFF800000#32 = ⊥ := by simp [Ideal.ofBits, Ideal.ieee]

/-- The kernel's largest level, 63. -/
theorem c_63 : Ideal.ofBits .f32 0x427C0000#32 = ((63 : ℝ) : EReal) :=
  (const_normal _ false 132 8126464 (by decide) (by decide) (by decide) (by decide) (by decide)).trans
    (congrArg _ (by norm_num [zpow_neg]))
/-- The kernel's least level, -64. -/
theorem c_neg64 : Ideal.ofBits .f32 0xC2800000#32 = ((-64 : ℝ) : EReal) :=
  (const_normal _ true 133 0 (by decide) (by decide) (by decide) (by decide) (by decide)).trans
    (congrArg _ (by norm_num [zpow_neg]))
/-- The entropy window, 100. -/
theorem c_100 : Ideal.ofBits .f32 0x42C80000#32 = ((100 : ℝ) : EReal) :=
  (const_normal _ false 133 4718592 (by decide) (by decide) (by decide) (by decide) (by decide)).trans
    (congrArg _ (by norm_num [zpow_neg]))
/-- The divisor of the average entropy, 6. -/
theorem c_6 : Ideal.ofBits .f32 0x40C00000#32 = ((6 : ℝ) : EReal) :=
  (const_normal _ false 129 4194304 (by decide) (by decide) (by decide) (by decide) (by decide)).trans
    (congrArg _ (by norm_num [zpow_neg]))
/-- The span of the precisions, 12 bits. -/
theorem c_12 : Ideal.ofBits .f32 0x41400000#32 = ((12 : ℝ) : EReal) :=
  (const_normal _ false 130 4194304 (by decide) (by decide) (by decide) (by decide) (by decide)).trans
    (congrArg _ (by norm_num [zpow_neg]))
/-- The least precision, 4 bits. -/
theorem c_4 : Ideal.ofBits .f32 0x40800000#32 = ((4 : ℝ) : EReal) :=
  (const_normal _ false 129 0 (by decide) (by decide) (by decide) (by decide) (by decide)).trans
    (congrArg _ (by norm_num [zpow_neg]))
/-- The base of the number of levels, 2. -/
theorem c_2 : Ideal.ofBits .f32 0x40000000#32 = ((2 : ℝ) : EReal) :=
  (const_normal _ false 128 0 (by decide) (by decide) (by decide) (by decide) (by decide)).trans
    (congrArg _ (by norm_num [zpow_neg]))
/-- The least probability, near 1e-8. -/
theorem c_small : Ideal.ofBits .f32 0x322BCC77#32 = ((11258999 / 1125899906842624 : ℝ) : EReal) :=
  (const_normal _ false 100 2870391 (by decide) (by decide) (by decide) (by decide) (by decide)).trans
    (congrArg _ (by norm_num [zpow_neg]))
/-- The factor from natural to binary logarithm, near 1.4427. -/
theorem c_log2e : Ideal.ofBits .f32 0x3FB8AA3B#32 = ((12102203 / 8388608 : ℝ) : EReal) :=
  (const_normal _ false 127 3713595 (by decide) (by decide) (by decide) (by decide) (by decide)).trans
    (congrArg _ (by norm_num [zpow_neg]))
/-- The rate, near 0.01. -/
theorem c_rate : Ideal.ofBits .f32 0x3C23D70A#32 = ((5368709 / 536870912 : ℝ) : EReal) :=
  (const_normal _ false 120 2348810 (by decide) (by decide) (by decide) (by decide) (by decide)).trans
    (congrArg _ (by norm_num [zpow_neg]))
/-- The starting precision's share, near 7.92. -/
theorem c_base : Ideal.ofBits .f32 0x40FD70A4#32 = ((4152361 / 524288 : ℝ) : EReal) :=
  (const_normal _ false 129 8220836 (by decide) (by decide) (by decide) (by decide) (by decide)).trans
    (congrArg _ (by norm_num [zpow_neg]))

end Cert.Proof

end
-- ==== Proof.Levels.lean ====
/-
  The reference's number of levels is 128, whatever the array: the entropy it reads off the histogram moves the
  precision from 7.96 by less than 0.04, so the floor is 7 bits.
-/
module

public import proofs.«01_k».proof.Proof.Constants
public import proofs.«01_k».proof.Proof.Gen.ReferenceIdeal.Run

@[expose] public section

set_option maxRecDepth 16384

noncomputable section

namespace Cert.Proof

open Idealize.ShloMosaic

/-! ## The entropy is bounded -/

/-- One bin's term `p · (log p · log₂e)`, at a probability not below the least one, is at least `-2`. -/
theorem bin_ge (c : EReal) (hc : Ideal.ofBits .f32 0x322BCC77#32 ≤ c) :
    ((-2 : ℝ) : EReal) ≤ c * (Ideal.log c * Ideal.ofBits .f32 0x3FB8AA3B#32) := by
  rw [c_small] at hc
  rw [c_log2e]
  induction c with
  | bot => exact absurd (le_bot_iff.mp hc) (EReal.coe_ne_bot _)
  | top =>
    show _ ≤ (⊤ : EReal) * (⊤ * _)
    rw [EReal.top_mul_coe_of_pos (by norm_num), EReal.top_mul_top]
    exact le_top
  | coe r =>
    have hr : 0 < r := lt_of_lt_of_le (by norm_num) (EReal.coe_le_coe_iff.mp hc)
    show _ ≤ (r : EReal) * ((if r ≤ 0 then ⊥ else (Real.log r : EReal)) * _)
    rw [if_neg (not_le.mpr hr), ← EReal.coe_mul, ← EReal.coe_mul, EReal.coe_le_coe_iff]
    have hl := Real.one_sub_inv_le_log_of_pos hr
    have h1 : r * (1 - r⁻¹) ≤ r * Real.log r := mul_le_mul_of_nonneg_left hl hr.le
    have h2 : r * (1 - r⁻¹) = r - 1 := by field_simp
    nlinarith

/-- So the sum over the 64 bins is at least `-128`. -/
theorem bins_ge {n : ℕ} (f : Fin n → EReal) (hf : ∀ i, ((-2 : ℝ) : EReal) ≤ f i) :
    ((n * (-2) : ℝ) : EReal) ≤ ∑ i, f i := by
  induction n with
  | zero => simp
  | succ n ih =>
    rw [Fin.sum_univ_castSucc]
    have h := add_le_add (ih (fun i => f i.castSucc) fun i => hf _) (hf (Fin.last n))
    rw [← EReal.coe_add] at h
    refine le_trans (EReal.coe_le_coe_iff.mpr (le_of_eq ?_)) h
    push_cast
    ring

/-- A number divided by a positive real constant is bounded as reals are. -/
theorem div_le_of_le (z : EReal) (b k : ℝ) (hk : 0 < k) (hz : z ≤ (b : EReal)) : Ideal.div z (k : EReal) ≤ ((b / k : ℝ) : EReal) := by
  unfold Ideal.div
  rw [if_neg (fun h => hk.ne' (EReal.coe_eq_zero.mp h)), ← EReal.coe_inv]
  induction z with
  | bot => rw [EReal.bot_mul_coe_of_pos (inv_pos.mpr hk)]; exact bot_le
  | top => exact absurd (top_le_iff.mp hz) (EReal.coe_ne_top _)
  | coe r =>
    rw [← EReal.coe_mul, EReal.coe_le_coe_iff, ← div_eq_mul_inv]
    exact div_le_div_of_nonneg_right (EReal.coe_le_coe_iff.mp hz) hk.le

/-! ## The levels -/

/-- From the negated entropy `z` to the number of levels. -/
def levelsFrom (z : EReal) : EReal :=
  Ideal.pow (Ideal.ofBits .f32 0x40000000#32) (Ideal.liftRound Int.floor (Ideal.ofBits .f32 0x40FD70A4#32
    + Ideal.ofBits .f32 0x3C23D70A#32 * (Ideal.ofBits .f32 0x40800000#32
      + min (Ideal.ofBits .f32 0x3F800000#32) (max (Ideal.ofBits .f32 0x00000000#32)
          (Ideal.div (Ideal.div z (Ideal.ofBits .f32 0x42C80000#32)) (Ideal.ofBits .f32 0x40C00000#32)))
        * Ideal.ofBits .f32 0x41400000#32)))

/-- At an entropy of at most 128 there are 128 levels. -/
theorem levelsFrom_eq (z : EReal) (hz : z ≤ ((128 : ℝ) : EReal)) : levelsFrom z = ((128 : ℝ) : EReal) := by
  unfold levelsFrom
  rw [c_2, c_base, c_rate, c_4, c_100, c_6, c_12, Ideal.ofBits_one_f32, Ideal.ofBits_zero_f32]
  have h := div_le_of_le _ _ 6 (by norm_num) (div_le_of_le z 128 100 (by norm_num) hz)
  generalize Ideal.div (Ideal.div z ((100 : ℝ) : EReal)) ((6 : ℝ) : EReal) = y at h
  obtain ⟨r, hr, h0, h1⟩ : ∃ r : ℝ, min 1 (max 0 y) = (r : EReal) ∧ 0 ≤ r ∧ r ≤ 1 / 4 := by
    have hlo : (0 : EReal) ≤ min 1 (max 0 y) := le_min zero_le_one (le_max_left _ _)
    have hhi : min 1 (max 0 y) ≤ ((1 / 4 : ℝ) : EReal) :=
      (min_le_right _ _).trans (max_le (EReal.coe_nonneg.mpr (by norm_num))
        (h.trans (EReal.coe_le_coe_iff.mpr (by norm_num))))
    have hc := EReal.coe_toReal (x := min 1 (max 0 y)) (fun e => by rw [e] at hhi; exact absurd (top_le_iff.mp hhi) (EReal.coe_ne_top _))
      (fun e => by rw [e] at hlo; exact absurd (le_bot_iff.mp hlo) EReal.zero_ne_bot)
    refine ⟨_, hc.symm, ?_, ?_⟩
    · rw [← hc] at hlo; exact EReal.coe_nonneg.mp hlo
    · rw [← hc] at hhi; exact EReal.coe_le_coe_iff.mp hhi
  rw [hr, ← EReal.coe_mul, ← EReal.coe_add, ← EReal.coe_mul, ← EReal.coe_add]
  have hf : ⌊(4152361 / 524288 : ℝ) + 5368709 / 536870912 * (4 + r * 12)⌋ = 7 := by
    rw [Int.floor_eq_iff]
    constructor
    · push_cast; linarith
    · push_cast; linarith
  show Ideal.pow ((2 : ℝ) : EReal) (((⌊_⌋ : ℤ) : ℝ) : EReal) = _
  rw [hf]
  show (((2 : ℝ).rpow ((7 : ℤ) : ℝ) : ℝ) : EReal) = _
  refine congrArg _ ?_
  show (2 : ℝ) ^ ((7 : ℤ) : ℝ) = 128
  rw [Real.rpow_intCast]
  norm_num

/-! ## The reference's term -/

open Cert.ReferenceIdeal Cert.ReferenceIdeal.Gen

/-- The reference's number of levels, from the probabilities of the 64 bins. -/
def levels (p : FVec Ideal S64 .f32) : FVec Ideal S_ .f32 :=
  let q : FVec Ideal S64 .f32 := maximumf (broadcastInDim S64 ![] bcast_S_S64 (id (constant S_ .f32 0x322BCC77#32))) p
  Host.powf (constant S_ .f32 0x40000000#32) (Host.floor (addf (constant S_ .f32 0x40FD70A4#32)
    (mulf (constant S_ .f32 0x3C23D70A#32) (addf (constant S_ .f32 0x40800000#32)
      (mulf (minimumf (id (constant S_ .f32 0x3F800000#32)) (maximumf (id (constant S_ .f32 0x00000000#32))
        (Host.divf (Host.divf (Host.negf (Host.reduceAdd
            (mulf q (mulf (Host.log q) (broadcastInDim S64 ![] bcast_S_S64 (constant S_ .f32 0x3FB8AA3B#32))))
            (constant S_ .f32 0x00000000#32) reducesTo_S64_S_d0 h_S_))
          (constant S_ .f32 0x42C80000#32)) (constant S_ .f32 0x40C00000#32))))
        (constant S_ .f32 0x41400000#32))))))

/-- An index of the 64 bins, from its number. -/
def bin (k : Fin 64) : S64.Idx := fun | ⟨0, _⟩ => k

/-- The bins' indices are the numbers below 64. -/
def binEquiv : Fin 64 ≃ S64.Idx where
  toFun := bin
  invFun i := i 0
  left_inv _ := rfl
  right_inv i := by
    funext a
    match a with
    | ⟨0, _⟩ => rfl

/-- Whatever the probabilities, there are 128 levels. -/
theorem levels_eq (p : FVec Ideal S64 .f32) (i : S_.Idx) : levels p i = ((128 : ℝ) : EReal) := by
  refine levelsFrom_eq _ ?_
  show -(Ideal.hostReduceAdd reducesTo_S64_S_d0 _ (Ideal.ofBits .f32 0x00000000#32) i) ≤ _
  rw [Ideal.hostReduceAdd_total reducesTo_S64_S_d0 (fun b => b.elim0), Ideal.ofBits_zero_f32, zero_add,
    ← binEquiv.sum_comp]
  have h := bins_ge (n := 64) (fun k => max (Ideal.ofBits .f32 0x322BCC77#32) (p (bin k))
      * (Ideal.log (max (Ideal.ofBits .f32 0x322BCC77#32) (p (bin k))) * Ideal.ofBits .f32 0x3FB8AA3B#32))
    (fun k => bin_ge _ (le_max_left _ _))
  have h' := EReal.neg_le_neg_iff.mpr h
  refine le_trans h' ?_
  rw [← EReal.coe_neg, EReal.coe_le_coe_iff]
  norm_num

/-- The reference's result, from the number of levels and the array. -/
def refFrom (n : FVec Ideal S_ .f32) (x : FVec Ideal S4x8192x2048 .f32) : FVec Ideal S4x8192x2048 .f32 :=
  let top : FVec Ideal S_ .f32 := Host.reduce FloatOps.maximumf (Host.absf x) (constant S_ .f32 0xFF800000#32) reducesTo_S4x8192x2048_S_d0_1_2 h_S_
  let half : FVec Ideal S_ .f32 := Host.divf n (constant S_ .f32 0x40000000#32)
  let last : FVec Ideal S_ .f32 := subf half (constant S_ .f32 0x3F800000#32)
  let step : FVec Ideal S_ .f32 := Host.divf top last
  let all (v : FVec Ideal S_ .f32) : FVec Ideal S4x8192x2048 .f32 := broadcastInDim S4x8192x2048 ![] bcast_S_S4x8192x2048 v
  addf x (subf (select (broadcastInDim S4x8192x2048 ![] bcast_S_S4x8192x2048 (cmpf .ogt top (constant S_ .f32 0x00000000#32)))
    (mulf (minimumf (all last) (maximumf (all (Host.negf half)) (Host.roundeven (Host.divf x (all step))))) (all step)) x) x)

set_option maxHeartbeats 4000000 in
/-- The reference's result is that, at the levels of some probabilities. -/
theorem ref_eq (m : (ℓ : Loc nD τ sig) → Buf (Elt Ideal) ℓ) (c : Dev nD) :
    ∃ p, Value.res_main_v61 m c = refFrom (levels p) (m ((c.tc : Thread nD τ).loc main_arg0)) := by
  unfold Value.res_main_v61 refFrom levels
  dsimp only
  exact ⟨_, rfl⟩

end Cert.Proof

end
-- ==== Proof.Equal.lean ====
/-
  The kernel's result is the reference's. The word the first region leaves is the largest absolute value of the whole
  array, as the reference's reduction is; the reference has 128 levels; and where the largest absolute value is not
  positive every element is zero.
-/
module

public import proofs.«01_k».proof.Proof.Arrays
public import proofs.«01_k».proof.Proof.Levels

@[expose] public section

set_option maxRecDepth 16384

noncomputable section

namespace Cert.Proof

open Idealize.ShloMosaic Idealize.ShloMosaic.TcCoe
open Idealize.SL.Sem

/-! ## The largest absolute value -/

/-- An upper bound of a block's maximum over all its rows and columns is one of every element. -/
theorem blockMax_le (src : FVec Ideal Cert.KernelIdeal.S1x1024x2048 .f32) (hφ : FKind.Formats .f32)
    (hacc : (0xFF800000#32 : BitVec 32) = FKind.maximumf.neutral .f32 hφ) (k : Cert.KernelIdeal.S1.Idx) (b : EReal) :
    (multiReduction .maximumf [1, 2] Cert.KernelIdeal.S1 src 0xFF800000#32 Cert.KernelIdeal.Gen.reduces_S1x1024x2048_S1 hφ hacc k : EReal) ≤ b
      ↔ ∀ i, (src i : EReal) ≤ b := by
  rw [multiReduction_maximumf_eq_fold, Finset.filter_true_of_mem fun i _ => funext fun a => by
    match a with
    | ⟨0, _⟩ => exact Subsingleton.elim (α := Fin 1) _ _]
  refine (Finset.fold_max_le b).trans ⟨fun h i => h.2 i (Finset.mem_univ _), fun h => ⟨?_, fun i _ => h i⟩⟩
  exact (c_bot.trans_le bot_le : (Ideal.ofBits .f32 0xFF800000#32 : EReal) ≤ b)

/-- An element taken out of a reshaped array is an element of the array. -/
theorem extractAt_shapeCast {s t : Shape} {α : Type} (w : s.Idx → α) (h : s.ShapeCasts t) (pos : Fin t.rank → ℕ)
    (hp : ∀ a, pos a < t.size a) :
    extractAt pos (shapeCast t w h) hp = w (Shape.reshapeEquiv h fun a => ⟨pos a, hp a⟩) := rfl

/-- An upper bound of a block's largest absolute value is one of every absolute value in the block. -/
theorem k0_pay1_le (v : Vec Ideal Cert.KernelIdeal.S1024x2048 .f32) (b : EReal) :
    (Cert.KernelIdeal.Gen.k0_pay1 v : EReal) ≤ b ↔ ∀ j, max (v j : EReal) (-(v j : EReal)) ≤ b := by
  have e : shapeCast Cert.KernelIdeal.S1024x2048 v Cert.KernelIdeal.Gen.shapeCasts_S1024x2048_S1024x2048 = v := shapeCast_self v _
  unfold Cert.KernelIdeal.Gen.k0_pay1
  dsimp only
  rw [e, extractAt_shapeCast]
  refine (blockMax_le _ _ _ _ b).trans ⟨fun h j => ?_, fun h i => h _⟩
  have := h ((Shape.reshapeEquiv Cert.KernelIdeal.Gen.shapeCasts_S1024x2048_S1x1024x2048).symm j)
  unfold shapeCast at this
  rw [Equiv.apply_symm_apply] at this
  exact this

/-- An upper bound of the running largest absolute value is one of every absolute value of the blocks up to there. -/
theorem running_le (W : Dev Cert.KernelIdeal.nD → Valuation Cert.KernelIdeal.τ Cert.KernelIdeal.sig (Elt Ideal))
    (c : Dev Cert.KernelIdeal.nD) (b : EReal) : ∀ (n : ℕ) (h : n < Cert.KernelIdeal.cfg0.N),
    (running W c n h : EReal) ≤ b ↔ ∀ t (ht : t ≤ n) j, max (blockA W c ⟨t, Nat.lt_of_le_of_lt ht h⟩ j : EReal) (-(blockA W c ⟨t, Nat.lt_of_le_of_lt ht h⟩ j : EReal)) ≤ b
  | 0, h => by
    refine (k0_pay1_le _ b).trans ⟨fun hb t ht j => ?_, fun hb j => hb 0 (Nat.le_refl 0) j⟩
    obtain rfl := Nat.le_zero.mp ht
    exact hb j
  | n + 1, h => by
    refine (max_le_iff (a := (running W c n (Nat.lt_of_succ_lt h) : EReal))
      (b := (Cert.KernelIdeal.Gen.k0_pay1 (blockA W c ⟨n + 1, h⟩) : EReal)) (c := b)).trans ?_
    rw [running_le W c b n, k0_pay1_le]
    refine ⟨fun hb t ht j => ?_, fun hb => ⟨fun t ht j => hb t (Nat.le_succ_of_le ht) j, fun j => hb (n + 1) (Nat.le_refl _) j⟩⟩
    rcases Nat.of_le_succ ht with h' | rfl
    · exact hb.1 t h' j
    · exact hb.2 j

/-- An upper bound of the word the first region leaves is one of every absolute value of the argument. -/
theorem lastWord_le (m : (ℓ : Loc Cert.KernelIdeal.nD Cert.KernelIdeal.τ Cert.KernelIdeal.sig) → Buf (Elt Ideal) ℓ)
    (c : Dev Cert.KernelIdeal.nD) (x : FVec Ideal Cert.KernelIdeal.S4x8192x2048 .f32)
    (hx : m ((c.tc : Thread Cert.KernelIdeal.nD Cert.KernelIdeal.τ).loc Cert.KernelIdeal.main_arg0) = x) (b : EReal) :
    (lastWord (Cert.KernelIdeal.Gen.V1 m) c : EReal) ≤ b ↔ ∀ i, max (x i : EReal) (-(x i : EReal)) ≤ b := by
  unfold lastWord
  refine (running_le _ c b 31 (by decide)).trans ?_
  have hr : ∀ k, rowsOf m c k = x (Shape.reshapeEquiv Cert.KernelIdeal.Gen.shapeCasts_S4x8192x2048_S32768x2048 k) := by
    intro k; subst hx; rfl
  have hb : ∀ t (ht : t < 32) j, blockA (Cert.KernelIdeal.Gen.V1 m) c ⟨t, ht⟩ j
      = x (Shape.reshapeEquiv Cert.KernelIdeal.Gen.shapeCasts_S4x8192x2048_S32768x2048 (placeAt t ht j)) := by
    intro t ht j
    rw [blockA_apply, V1_rows, hr]
  refine ⟨fun h i => ?_, fun h t ht j => ?_⟩
  · obtain ⟨t, ht, j, hj⟩ := placeAt_surj ((Shape.reshapeEquiv Cert.KernelIdeal.Gen.shapeCasts_S4x8192x2048_S32768x2048).symm i)
    have := h t (by omega) j
    rw [hb t ht j, hj, Equiv.apply_symm_apply] at this
    exact this
  · rw [hb t (by omega) j]
    exact h _

/-- The reference's largest absolute value. -/
def topOf (x : FVec Ideal Cert.ReferenceIdeal.S4x8192x2048 .f32) : FVec Ideal Cert.ReferenceIdeal.S_ .f32 :=
  Host.reduce FloatOps.maximumf (Host.absf x) (constant Cert.ReferenceIdeal.S_ .f32 0xFF800000#32)
    Cert.ReferenceIdeal.Gen.reducesTo_S4x8192x2048_S_d0_1_2 Cert.ReferenceIdeal.Gen.h_S_

/-- An upper bound of it is one of every absolute value. -/
theorem topOf_le (x : FVec Ideal Cert.ReferenceIdeal.S4x8192x2048 .f32) (k : Cert.ReferenceIdeal.S_.Idx) (b : EReal) :
    (topOf x k : EReal) ≤ b ↔ ∀ i, max (x i : EReal) (-(x i : EReal)) ≤ b := by
  unfold topOf
  rw [Host.reduce_eq_fold, Finset.filter_true_of_mem fun i _ => funext fun a => a.elim0]
  refine (Finset.fold_max_le b).trans ⟨fun h i => h.2 i (Finset.mem_univ _), fun h => ⟨?_, fun i _ => h i⟩⟩
  exact (c_bot.trans_le bot_le : (Ideal.ofBits .f32 0xFF800000#32 : EReal) ≤ b)

/-! ## One element -/

/-- The reference's function of one element `y`, at 128 levels and the largest absolute value `s`. -/
def refOne (s y : EReal) : EReal :=
  let half : EReal := Ideal.div ((128 : ℝ) : EReal) (Ideal.ofBits .f32 0x40000000#32)
  let last : EReal := half - Ideal.ofBits .f32 0x3F800000#32
  let step : EReal := Ideal.div s last
  y + (Scalar.select (Ideal.cmp .ogt s (Ideal.ofBits .f32 0x00000000#32))
    (min last (max (-half) (Ideal.liftRound Ideal.roundHalfEven (Ideal.div y step))) * step) y - y)

/-- Where no absolute value exceeds `s`, the kernel's function of an element is the reference's. -/
theorem quantOne_eq (s y : EReal) (h : max y (-y) ≤ s) : (quantOne (F := Ideal) (s : Ideal .f32) (y : Ideal .f32) : EReal) = refOne s y := by
  have hhalf : Ideal.div ((128 : ℝ) : EReal) (Ideal.ofBits .f32 0x40000000#32) = ((64 : ℝ) : EReal) := by
    rw [c_2]
    unfold Ideal.div
    rw [if_neg (fun h => two_ne_zero (EReal.coe_eq_zero.mp h)), ← EReal.coe_inv, ← EReal.coe_mul]
    norm_num
  have hlast : ((64 : ℝ) : EReal) - Ideal.ofBits .f32 0x3F800000#32 = ((63 : ℝ) : EReal) := by
    rw [Ideal.ofBits_one_f32, ← EReal.coe_one, ← EReal.coe_sub]
    norm_num
  have hneg : -((64 : ℝ) : EReal) = ((-64 : ℝ) : EReal) := (EReal.coe_neg 64).symm
  unfold refOne quantOne
  dsimp only
  rw [hhalf, hlast, hneg, ← c_63, ← c_neg64]
  show Scalar.select (Ideal.cmp .ogt s (Ideal.ofBits .f32 0x00000000#32)) _ _ = _
  unfold Scalar.select
  by_cases hc : Ideal.cmp .ogt s (Ideal.ofBits .f32 0x00000000#32) = 1
  · rw [if_pos hc, if_pos hc]
    rfl
  · rw [if_neg hc, if_neg hc]
    have hs : s ≤ 0 := by
      by_contra hp
      refine hc ?_
      rw [Ideal.ofBits_zero_f32]
      unfold Ideal.cmp
      simp [not_le.mp hp]
    have h1 : y ≤ 0 := (le_max_left _ _).trans (h.trans hs)
    have h2 : 0 ≤ y := by
      have := (le_max_right _ _).trans (h.trans hs)
      exact EReal.neg_le_zero.mp this
    obtain rfl := le_antisymm h1 h2
    simp

/-- The reference's result at an element. -/
theorem refFrom_apply (n : FVec Ideal Cert.ReferenceIdeal.S_ .f32) (hn : ∀ k, (n k : EReal) = ((128 : ℝ) : EReal))
    (x : FVec Ideal Cert.ReferenceIdeal.S4x8192x2048 .f32) (i : Cert.ReferenceIdeal.S4x8192x2048.Idx)
    (s : EReal) (hs : ∀ k, (topOf x k : EReal) = s) : (refFrom n x i : EReal) = refOne s (x i) := by
  obtain rfl : n = fun _ => ((128 : ℝ) : EReal) := funext hn
  unfold refFrom
  dsimp only
  have ht : topOf x = fun _ => s := funext hs
  unfold topOf at ht
  rw [ht]
  rfl

/-- The kernel's result is the reference's, at every element. -/
theorem result_eq (m : (ℓ : Loc Cert.KernelIdeal.nD Cert.KernelIdeal.τ Cert.KernelIdeal.sig) → Buf (Elt Ideal) ℓ)
    (c : Dev Cert.KernelIdeal.nD) (x : FVec Ideal Cert.KernelIdeal.S4x8192x2048 .f32)
    (hx : m ((c.tc : Thread Cert.KernelIdeal.nD Cert.KernelIdeal.τ).loc Cert.KernelIdeal.main_arg0) = x)
    (p : FVec Ideal Cert.ReferenceIdeal.S64 .f32) :
    (atEnd m c Cert.KernelIdeal.main_v3 : FVec Ideal Cert.KernelIdeal.S4x8192x2048 .f32) = refFrom (levels p) x := by
  funext i
  have hw := lastWord_le m c x hx
  refine (atEnd_apply m c i).trans ?_
  rw [hx]
  have hs : ∀ k, (topOf x k : EReal) = lastWord (Cert.KernelIdeal.Gen.V1 m) c := fun k =>
    le_antisymm ((topOf_le x k _).mpr ((hw _).mp (le_refl _))) ((hw _).mpr ((topOf_le x k _).mp (le_refl _)))
  exact (quantOne_eq _ _ ((hw _).mp (le_refl _) i)).trans (refFrom_apply (levels p) (levels_eq p) x i _ hs).symm

end Cert.Proof

end
-- ==== Proof.lean ====
module

public import proofs.«01_k».proof.Defs
public import proofs.«01_k».proof.Proof.Run
public import proofs.«01_k».proof.Proof.Equal
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import Idealize.ShloMosaic.Lib.Claim
public import Idealize.ShloMosaic.Adequacy
public import Idealize.ShloMosaic.Init

@[expose] public section

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts

/-- No operation was rewritten, so the two printed kernels are the same text: their bodies agree, row by row. -/
theorem defs₀_same : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | ⟨0, _⟩, (t, s) => rfl
  | ⟨1, _⟩, (t, s) => rfl

/-- So the two kernels run the same procedures. -/
theorem defs_same : Cert.Kernel.defs (F := Bits) = Cert.KernelIdeal.defs (F := Bits) :=
  congrArg (Pipeline.defs (Cert.KernelIdeal.pcfgs (F := Bits))) defs₀_same

/-- The kernel as printed runs, leaves its argument alone, and every counter ends at zero. -/
theorem frame_kernel : Cert.quiescent_Kernel := by
  intro m g _
  rw [defs_same]
  exact (θ_run (Cert.KernelIdeal.defs (F := Bits)) _ _).mono (fun r h => ⟨fun c => (h.1 c).2, h.2⟩)
    (run_whole (F := Bits) m g)

/-- So does its idealization. -/
theorem frame_ideal : Cert.quiescent_KernelIdeal := by
  intro m g _
  exact (θ_run (Cert.KernelIdeal.defs (F := Ideal)) _ _).mono (fun r h => ⟨fun c => (h.1 c).2, h.2⟩)
    (run_whole (F := Ideal) m g)

/-- So does the reference, which declares no semaphore. -/
theorem frame_reference : Cert.quiescent_ReferenceIdeal := by
  intro m g _
  exact (θ_run (Cert.ReferenceIdeal.defs (F := Ideal)) _ _).mono
    (fun r h => ⟨fun c => (h c).2, sem_eq_zero_of_no_sems (by decide) r.2⟩)
    (Cert.ReferenceIdeal.Value.run (F := Ideal) m g)

/-- From arguments that agree, the idealized kernel and the idealized reference end with the same result. -/
theorem same_result : Cert.algebraic_KernelIdeal_ReferenceIdeal := by
  intro m g m' g' _ hm
  refine ⟨fun c => atEnd m c (Proc.devRef .tc Cert.KernelIdeal.main_v3), ?_, ?_⟩
  · exact (θ_run (Cert.KernelIdeal.defs (F := Ideal)) _ _).mono (fun r h => h.1) (run_whole (F := Ideal) m g)
  · refine (θ_run (Cert.ReferenceIdeal.defs (F := Ideal)) _ _).mono (fun r h c => ⟨(h c).1.trans ?_, (h c).2⟩)
      (Cert.ReferenceIdeal.Value.run (F := Ideal) m' g')
    obtain ⟨p, hp⟩ := ref_eq m' c
    exact hp.trans (result_eq m c _ (hm c).symm p).symm

/-- The five claims. -/
theorem claim : Cert.Claim := ⟨Cert.Kernel.Gen.facts, Cert.KernelIdeal.Gen.facts, Cert.ReferenceIdeal.Gen.facts,
  frame_kernel, frame_ideal, frame_reference, trivial, same_result⟩

end Cert.Proof

end
